-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_by_setup [hPre_drawn_by_setup : Cert.Pre_drawn_by_setup.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_by_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_drawn_by_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_drawn_by_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_drawn_by_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_by_setup [hPre_drawn_by_setup : Cert.Pre_drawn_by_setup.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_by_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_drawn_by_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_drawn_by_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_drawn_by_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn_by_setup [hKernelIdeal : Cert.KernelIdeal.Facts] [hPre_drawn_by_setup : Cert.Pre_drawn_by_setup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_by_setup m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn_by_setup [hReferenceIdeal : Cert.ReferenceIdeal.Facts] [hPre_drawn_by_setup : Cert.Pre_drawn_by_setup.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_by_setup m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn_by_setup [hKernelIdeal : Cert.KernelIdeal.Facts] [hReferenceIdeal : Cert.ReferenceIdeal.Facts] [hPre_drawn_by_setup : Cert.Pre_drawn_by_setup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_by_setup m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn_by_setup : Cert.Pre_drawn_by_setup.Facts),
    quiescent_Kernel (hKernel := hKernel)
    ∧ quiescent_KernelIdeal (hKernelIdeal := hKernelIdeal)
    ∧ quiescent_KernelIdeal_pre_drawn_by_setup (hKernelIdeal := hKernelIdeal) (hPre_drawn_by_setup := hPre_drawn_by_setup)
    ∧ quiescent_ReferenceIdeal (hReferenceIdeal := hReferenceIdeal)
    ∧ quiescent_ReferenceIdeal_pre_drawn_by_setup (hReferenceIdeal := hReferenceIdeal) (hPre_drawn_by_setup := hPre_drawn_by_setup)
    ∧ preserves_Kernel_KernelIdeal
    ∧ algebraic_KernelIdeal_ReferenceIdeal_pre_drawn_by_setup (hKernelIdeal := hKernelIdeal) (hReferenceIdeal := hReferenceIdeal) (hPre_drawn_by_setup := hPre_drawn_by_setup)
-- ==== Pre_drawn_by_setup.lean ====
abbrev S4096x225 : Shape := ⟨2, ![4096, 225]⟩
abbrev S100201x64 : Shape := ⟨2, ![100201, 64]⟩
abbrev S26 : Shape := ⟨1, ![26]⟩
abbrev S25x64 : Shape := ⟨2, ![25, 64]⟩
abbrev S_ : Shape := ⟨0, ![]⟩
abbrev S1x64 : Shape := ⟨2, ![1, 64]⟩
abbrev S64 : Shape := ⟨1, ![64]⟩

class Facts : Prop where
  slicesBy_S100201x64_S25x64_0s4000_0s1 : S100201x64.SlicesBy (![0, 0] : Fin 2 → Nat) ![4000, 1] S25x64
  bcast_S_S4096x225 : S_.BroadcastsInDim S4096x225 (![] : Fin 0 → Fin S4096x225.rank)
  bcast_S_S26 : S_.BroadcastsInDim S26 (![] : Fin 0 → Fin S26.rank)
  bcast_S_S25x64 : S_.BroadcastsInDim S25x64 (![] : Fin 0 → Fin S25x64.rank)
  slices_S100201x64_S1x64_100000_0 : S100201x64.Slices ![100000, 0] S1x64
  shapeCasts_S1x64_S64 : S1x64.ShapeCasts S64
  bcast_S_S64 : S_.BroadcastsInDim S64 (![] : Fin 0 → Fin S64.rank)

variable [Facts]

def fn {F : FTy → Type} [FloatOps F] (main_arg0 : IVec S4096x225 32) (main_arg1 : FVec F S100201x64 .f32) (main_arg2 : IVec S26 32) : IVec S4096x225 1 × IVec S26 1 × IVec S25x64 1 × IVec S64 1 :=
  let main_v0 : FVec F S25x64 .f32 := (Host.slice S25x64 ![0, 0] ![4000, 1] · slicesBy_S100201x64_S25x64_0s4000_0s1) main_arg1
  let main_c : IVec S_ 32 := constantI S_ 32 0#32
  let main_v1 : IVec S4096x225 32 := broadcastInDim S4096x225 ![] bcast_S_S4096x225 main_c
  let main_v2 : IVec S4096x225 1 := cmpi .sge main_arg0 main_v1
  let main_c_0 : IVec S_ 32 := constantI S_ 32 1#32
  let main_v3 : IVec S4096x225 32 := broadcastInDim S4096x225 ![] bcast_S_S4096x225 main_c_0
  let main_v4 : IVec S4096x225 1 := cmpi .sle main_arg0 main_v3
  let main_v5 : IVec S4096x225 1 := andi main_v2 main_v4
  let main_v6 : IVec S26 32 := iotaInDim S26 32 0
  let main_c_1 : IVec S_ 32 := constantI S_ 32 4000#32
  let main_v7 : IVec S26 32 := broadcastInDim S26 ![] bcast_S_S26 main_c_1
  let main_v8 : IVec S26 32 := muli main_v7 main_v6
  let main_v9 : IVec S26 1 := cmpi .eq main_arg2 main_v8
  let main_v10 : FVec F S25x64 .f32 := Host.absf main_v0
  let main_cst : FVec F S_ .f32 := constant S_ .f32 0x7F800000#32
  let main_v11 : FVec F S25x64 .f32 := broadcastInDim S25x64 ![] bcast_S_S25x64 main_cst
  let main_v12 : IVec S25x64 1 := cmpf .olt main_v10 main_v11
  let main_v13 : FVec F S1x64 .f32 := (extractStridedSlice S1x64 ![100000, 0] · slices_S100201x64_S1x64_100000_0) main_arg1
  let main_v14 : FVec F S64 .f32 := shapeCast S64 main_v13 shapeCasts_S1x64_S64
  let main_cst_2 : FVec F S_ .f32 := constant S_ .f32 0x00000000#32
  let main_v15 : FVec F S64 .f32 := broadcastInDim S64 ![] bcast_S_S64 main_cst_2
  let main_v16 : IVec S64 1 := cmpf .oeq main_v14 main_v15
  (main_v5, main_v9, main_v12, main_v16)
-- ==== Kernel.lean ====
abbrev S4096x225 : Shape := ⟨2, ![4096, 225]⟩
abbrev S100201x64 : Shape := ⟨2, ![100201, 64]⟩
abbrev S26 : Shape := ⟨1, ![26]⟩
abbrev S2x64 : Shape := ⟨2, ![2, 64]⟩
abbrev S1x2x64 : Shape := ⟨3, ![1, 2, 64]⟩
abbrev S16x2x64 : Shape := ⟨3, ![16, 2, 64]⟩
abbrev S9x2x64 : Shape := ⟨3, ![9, 2, 64]⟩
abbrev S25x2x64 : Shape := ⟨3, ![25, 2, 64]⟩
abbrev S200x64 : Shape := ⟨2, ![200, 64]⟩
abbrev S4096x1664 : Shape := ⟨2, ![4096, 1664]⟩
abbrev S1024x225 : Shape := ⟨2, ![1024, 225]⟩
abbrev S1024x1664 : Shape := ⟨2, ![1024, 1664]⟩
abbrev S225x1664 : Shape := ⟨2, ![225, 1664]⟩
abbrev S1x1664 : Shape := ⟨2, ![1, 1664]⟩
abbrev S25x1x64 : Shape := ⟨3, ![25, 1, 64]⟩
abbrev S25x64 : Shape := ⟨2, ![25, 64]⟩
abbrev S25x1600 : Shape := ⟨2, ![25, 1600]⟩
abbrev S25x1664 : Shape := ⟨2, ![25, 1664]⟩
abbrev S200x1600 : Shape := ⟨2, ![200, 1600]⟩
abbrev S200x1664 : Shape := ⟨2, ![200, 1664]⟩
abbrev S1600 : Shape := ⟨1, ![1600]⟩
abbrev S1x1600 : Shape := ⟨2, ![1, 1600]⟩
abbrev S1x64 : Shape := ⟨2, ![1, 64]⟩
abbrev S4096x26x64 : Shape := ⟨3, ![4096, 26, 64]⟩

abbrev nBuf : Space → Nat
  | .hbm => 60
  | .vmem => 8
  | .smem => 0
  | _ => 0

abbrev bufTy : (tb : Table) → Fin (tcTables nBuf tb) → BufTy
  | .hbm, ⟨0, _⟩ => ⟨S4096x225, .i32⟩
  | .hbm, ⟨1, _⟩ => ⟨S100201x64, .f32⟩
  | .hbm, ⟨2, _⟩ => ⟨S26, .i32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S2x64, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S2x64, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S2x64, .f32⟩
  | .hbm, ⟨20, _⟩ => ⟨S2x64, .f32⟩
  | .hbm, ⟨21, _⟩ => ⟨S2x64, .f32⟩
  | .hbm, ⟨22, _⟩ => ⟨S2x64, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S2x64, .f32⟩
  | .hbm, ⟨27, _⟩ => ⟨S2x64, .f32⟩
  | .hbm, ⟨28, _⟩ => ⟨S1x2x64, .f32⟩
  | .hbm, ⟨29, _⟩ => ⟨S1x2x64, .f32⟩
  | .hbm, ⟨30, _⟩ => ⟨S1x2x64, .f32⟩
  | .hbm, ⟨31, _⟩ => ⟨S1x2x64, .f32⟩
  | .hbm, ⟨32, _⟩ => ⟨S1x2x64, .f32⟩
  | .hbm, ⟨33, _⟩ => ⟨S1x2x64, .f32⟩
  | .hbm, ⟨34, _⟩ => ⟨S1x2x64, .f32⟩
  | .hbm, ⟨35, _⟩ => ⟨S1x2x64, .f32⟩
  | .hbm, ⟨36, _⟩ => ⟨S1x2x64, .f32⟩
  | .hbm, ⟨37, _⟩ => ⟨S1x2x64, .f32⟩
  | .hbm, ⟨38, _⟩ => ⟨S1x2x64, .f32⟩
  | .hbm, ⟨39, _⟩ => ⟨S1x2x64, .f32⟩
  | .hbm, ⟨40, _⟩ => ⟨S1x2x64, .f32⟩
  | .hbm, ⟨41, _⟩ => ⟨S1x2x64, .f32⟩
  | .hbm, ⟨42, _⟩ => ⟨S1x2x64, .f32⟩
  | .hbm, ⟨43, _⟩ => ⟨S1x2x64, .f32⟩
  | .hbm, ⟨44, _⟩ => ⟨S1x2x64, .f32⟩
  | .hbm, ⟨45, _⟩ => ⟨S1x2x64, .f32⟩
  | .hbm, ⟨46, _⟩ => ⟨S1x2x64, .f32⟩
  | .hbm, ⟨47, _⟩ => ⟨S1x2x64, .f32⟩
  | .hbm, ⟨48, _⟩ => ⟨S1x2x64, .f32⟩
  | .hbm, ⟨49, _⟩ => ⟨S1x2x64, .f32⟩
  | .hbm, ⟨50, _⟩ => ⟨S1x2x64, .f32⟩
  | .hbm, ⟨51, _⟩ => ⟨S1x2x64, .f32⟩
  | .hbm, ⟨52, _⟩ => ⟨S1x2x64, .f32⟩
  | .hbm, ⟨53, _⟩ => ⟨S16x2x64, .f32⟩
  | .hbm, ⟨54, _⟩ => ⟨S9x2x64, .f32⟩
  | .hbm, ⟨55, _⟩ => ⟨S25x2x64, .f32⟩
  | .hbm, ⟨56, _⟩ => ⟨S200x64, .f32⟩
  | .hbm, ⟨57, _⟩ => ⟨S4096x225, .bf16⟩
  | .hbm, ⟨58, _⟩ => ⟨S4096x1664, .f32⟩
  | .hbm, ⟨59, _⟩ => ⟨S4096x26x64, .f32⟩
  | .local _ .vmem, ⟨0, _⟩ => ⟨S1024x225, .bf16⟩
  | .local _ .vmem, ⟨1, _⟩ => ⟨S1024x225, .bf16⟩
  | .local _ .vmem, ⟨2, _⟩ => ⟨S25x2x64, .f32⟩
  | .local _ .vmem, ⟨3, _⟩ => ⟨S200x64, .f32⟩
  | .local _ .vmem, ⟨4, _⟩ => ⟨S1024x1664, .f32⟩
  | .local _ .vmem, ⟨5, _⟩ => ⟨S1024x1664, .f32⟩
  | .local _ .vmem, ⟨6, _⟩ => ⟨S225x1664, .bf16⟩
  | .local _ .vmem, ⟨7, _⟩ => ⟨S1x1664, .f32⟩
  | _, _ => ⟨S4096x225, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x225 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x225 : Shape := ⟨2, ![4096, 225]⟩
abbrev S100201x64 : Shape := ⟨2, ![100201, 64]⟩
abbrev S26 : Shape := ⟨1, ![26]⟩
abbrev S4096x25 : Shape := ⟨2, ![4096, 25]⟩
abbrev S4096x200 : Shape := ⟨2, ![4096, 200]⟩
abbrev S25 : Shape := ⟨1, ![25]⟩
abbrev S1x25 : Shape := ⟨2, ![1, 25]⟩
abbrev S_ : Shape := ⟨0, ![]⟩
abbrev S4096x25x1 : Shape := ⟨3, ![4096, 25, 1]⟩
abbrev S1 : Shape := ⟨1, ![1]⟩
abbrev S1x1x1 : Shape := ⟨3, ![1, 1, 1]⟩
abbrev S4096x25x64 : Shape := ⟨3, ![4096, 25, 64]⟩
abbrev S200 : Shape := ⟨1, ![200]⟩
abbrev S1x200 : Shape := ⟨2, ![1, 200]⟩
abbrev S4096x200x1 : Shape := ⟨3, ![4096, 200, 1]⟩
abbrev S4096x200x64 : Shape := ⟨3, ![4096, 200, 64]⟩
abbrev S4096x64 : Shape := ⟨2, ![4096, 64]⟩
abbrev S4096x1x64 : Shape := ⟨3, ![4096, 1, 64]⟩
abbrev S4096x26x64 : Shape := ⟨3, ![4096, 26, 64]⟩

abbrev nBuf : Space → Nat
  | .hbm => 75
  | .vmem => 0
  | .smem => 0
  | _ => 0

abbrev bufTy : (tb : Table) → Fin (tcTables nBuf tb) → BufTy
  | .hbm, ⟨0, _⟩ => ⟨S4096x225, .i32⟩
  | .hbm, ⟨1, _⟩ => ⟨S100201x64, .f32⟩
  | .hbm, ⟨2, _⟩ => ⟨S26, .i32⟩
  | .hbm, ⟨3, _⟩ => ⟨S4096x25, .i32⟩
  | .hbm, ⟨4, _⟩ => ⟨S4096x200, .i32⟩
  | .hbm, ⟨5, _⟩ => ⟨S25, .i32⟩
  | .hbm, ⟨6, _⟩ => ⟨S1x25, .i32⟩
  | .hbm, ⟨7, _⟩ => ⟨S4096x25, .i32⟩
  | .hbm, ⟨8, _⟩ => ⟨S4096x25, .i32⟩
  | .hbm, ⟨9, _⟩ => ⟨S_, .i32⟩
  | .hbm, ⟨10, _⟩ => ⟨S4096x25, .i32⟩
  | .hbm, ⟨11, _⟩ => ⟨S4096x25, .i1⟩
  | .hbm, ⟨12, _⟩ => ⟨S_, .i32⟩
  | .hbm, ⟨13, _⟩ => ⟨S4096x25, .i32⟩
  | .hbm, ⟨14, _⟩ => ⟨S4096x25, .i32⟩
  | .hbm, ⟨15, _⟩ => ⟨S4096x25, .i32⟩
  | .hbm, ⟨16, _⟩ => ⟨S4096x25x1, .i32⟩
  | .hbm, ⟨17, _⟩ => ⟨S1, .i32⟩
  | .hbm, ⟨18, _⟩ => ⟨S_, .i32⟩
  | .hbm, ⟨19, _⟩ => ⟨S4096x25x1, .i32⟩
  | .hbm, ⟨20, _⟩ => ⟨S4096x25x1, .i1⟩
  | .hbm, ⟨21, _⟩ => ⟨S1x1x1, .i32⟩
  | .hbm, ⟨22, _⟩ => ⟨S4096x25x1, .i32⟩
  | .hbm, ⟨23, _⟩ => ⟨S4096x25x1, .i1⟩
  | .hbm, ⟨24, _⟩ => ⟨S4096x25x1, .i1⟩
  | .hbm, ⟨25, _⟩ => ⟨S_, .i1⟩
  | .hbm, ⟨26, _⟩ => ⟨S4096x25, .i1⟩
  | .hbm, ⟨27, _⟩ => ⟨S4096x25x64, .f32⟩
  | .hbm, ⟨28, _⟩ => ⟨S4096x25x64, .i1⟩
  | .hbm, ⟨29, _⟩ => ⟨S_, .f32⟩
  | .hbm, ⟨30, _⟩ => ⟨S4096x25x64, .f32⟩
  | .hbm, ⟨31, _⟩ => ⟨S4096x25x64, .f32⟩
  | .hbm, ⟨32, _⟩ => ⟨S200, .i32⟩
  | .hbm, ⟨33, _⟩ => ⟨S_, .i32⟩
  | .hbm, ⟨34, _⟩ => ⟨S200, .i32⟩
  | .hbm, ⟨35, _⟩ => ⟨S200, .i32⟩
  | .hbm, ⟨36, _⟩ => ⟨S_, .i32⟩
  | .hbm, ⟨37, _⟩ => ⟨S4096x200, .i32⟩
  | .hbm, ⟨38, _⟩ => ⟨S4096x200, .i1⟩
  | .hbm, ⟨39, _⟩ => ⟨S1x200, .i32⟩
  | .hbm, ⟨40, _⟩ => ⟨S_, .i32⟩
  | .hbm, ⟨41, _⟩ => ⟨S4096x200, .i32⟩
  | .hbm, ⟨42, _⟩ => ⟨S4096x200, .i32⟩
  | .hbm, ⟨43, _⟩ => ⟨S4096x200, .i32⟩
  | .hbm, ⟨44, _⟩ => ⟨S1, .i32⟩
  | .hbm, ⟨45, _⟩ => ⟨S_, .i32⟩
  | .hbm, ⟨46, _⟩ => ⟨S4096x200, .i32⟩
  | .hbm, ⟨47, _⟩ => ⟨S4096x200, .i32⟩
  | .hbm, ⟨48, _⟩ => ⟨S_, .i32⟩
  | .hbm, ⟨49, _⟩ => ⟨S4096x200, .i32⟩
  | .hbm, ⟨50, _⟩ => ⟨S4096x200, .i1⟩
  | .hbm, ⟨51, _⟩ => ⟨S_, .i32⟩
  | .hbm, ⟨52, _⟩ => ⟨S4096x200, .i32⟩
  | .hbm, ⟨53, _⟩ => ⟨S4096x200, .i32⟩
  | .hbm, ⟨54, _⟩ => ⟨S4096x200, .i32⟩
  | .hbm, ⟨55, _⟩ => ⟨S4096x200x1, .i32⟩
  | .hbm, ⟨56, _⟩ => ⟨S1, .i32⟩
  | .hbm, ⟨57, _⟩ => ⟨S_, .i32⟩
  | .hbm, ⟨58, _⟩ => ⟨S4096x200x1, .i32⟩
  | .hbm, ⟨59, _⟩ => ⟨S4096x200x1, .i1⟩
  | .hbm, ⟨60, _⟩ => ⟨S1x1x1, .i32⟩
  | .hbm, ⟨61, _⟩ => ⟨S4096x200x1, .i32⟩
  | .hbm, ⟨62, _⟩ => ⟨S4096x200x1, .i1⟩
  | .hbm, ⟨63, _⟩ => ⟨S4096x200x1, .i1⟩
  | .hbm, ⟨64, _⟩ => ⟨S_, .i1⟩
  | .hbm, ⟨65, _⟩ => ⟨S4096x200, .i1⟩
  | .hbm, ⟨66, _⟩ => ⟨S4096x200x64, .f32⟩
  | .hbm, ⟨67, _⟩ => ⟨S4096x200x64, .i1⟩
  | .hbm, ⟨68, _⟩ => ⟨S_, .f32⟩
  | .hbm, ⟨69, _⟩ => ⟨S4096x200x64, .f32⟩
  | .hbm, ⟨70, _⟩ => ⟨S4096x200x64, .f32⟩
  | .hbm, ⟨71, _⟩ => ⟨S_, .f32⟩
  | .hbm, ⟨72, _⟩ => ⟨S4096x64, .f32⟩
  | .hbm, ⟨73, _⟩ => ⟨S4096x1x64, .f32⟩
  | .hbm, ⟨74, _⟩ => ⟨S4096x26x64, .f32⟩
  | _, _ => ⟨S4096x225, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_1 : Ref sig .tc := ⟨.hbm, 40, rfl⟩
abbrev main_v13 : Ref sig .tc := ⟨.hbm, 41, rfl⟩
abbrev main_call1_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v19 : Ref sig .tc := ⟨.hbm, 70, rfl⟩
abbrev main_cst : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩

abbrev nD : Nat := 1
abbrev τ : Topo := Topo.v7x

variable {F : FTy → Type} [FloatOps F]
-- ==== Proof.Band.lean ====
module

public import proofs.«01_k».proof.Proof.Gen.KernelIdeal.Skeleton
public import Idealize.ShloMosaic.Lib.Pipeline.Value
public import Idealize.ShloMosaic.Lib.Pointwise

@[expose] public section

noncomputable section

namespace Cert.KernelIdeal.Table

open Cert.KernelIdeal Cert.KernelIdeal.Gen Idealize.ShloMosaic

/-- The word the kernel computes for "column over sixty-four, rounded down", as a function of the column's word. -/
def quot64 (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

set_option maxRecDepth 16384 in
/-- On every column of the one-hot part that word is the quotient of the column. -/
theorem quot64_eq : ∀ j : Fin 1600, quot64 (BitVec.ofNat 32 j.val) = BitVec.ofNat 32 (j.val / 64) := by
  decide +kernel

/-- The band mask: set at row `k` and column `j` exactly when column `j` lies in the `k`-th group of sixty-four. -/
theorem band_apply (k : Fin 25) (j : Fin 1600) : k0_pay6 (ix2 k j) = BitVec.ofBool (decide (j.val / 64 = k.val)) := by
  have h : k0_pay6 (ix2 k j) = IntOp.cmpi .eq (quot64 (BitVec.ofNat 32 j.val)) (BitVec.ofNat 32 k.val) := by
    pointwise [k0_pay6, quot64]
  rw [h, quot64_eq]
  have hj := j.isLt
  have hk := k.isLt
  have e : BitVec.ofNat 32 (j.val / 64) = BitVec.ofNat 32 k.val ↔ j.val / 64 = k.val := by
    rw [← BitVec.toNat_inj, BitVec.toNat_ofNat, BitVec.toNat_ofNat, Nat.mod_eq_of_lt (by omega), Nat.mod_eq_of_lt (by omega)]
  show BitVec.ofBool (BitVec.ofNat 32 (j.val / 64) == BitVec.ofNat 32 k.val) = _
  refine congrArg BitVec.ofBool ?_
  by_cases hh : j.val / 64 = k.val
  · rw [decide_eq_true hh, hh, beq_self_eq_true]
  · rw [decide_eq_false hh, beq_eq_false_iff_ne]
    exact fun h' => hh (e.mp h')

/-- Twenty-five copies of one block of sixty-four columns side by side, read at a column: the block at the column's
    remainder. -/
theorem tile_apply (x : FVec Ideal S25x64 .f32)
    (h : Shape.Concatenates ((List.replicate 25 (⟨S25x64, x⟩ : (s : Shape) × (s.Idx → Ideal .f32))).map (·.1)) S25x1600 1)
    (k : Fin 25) (j : Fin 1600) :
    concatenate S25x1600 1 (List.replicate 25 (⟨S25x64, x⟩ : (s : Shape) × (s.Idx → Ideal .f32))) h (ix2 k j)
      = x (ix2 k ⟨j.val % 64, Nat.mod_lt _ (by decide)⟩) := by
  refine concatenate_replicate_apply 1 25 x h rfl (ix2 k j) (ix2 k ⟨j.val % 64, Nat.mod_lt _ (by decide)⟩) rfl ?_
  intro b hb
  match b with
  | ⟨0, _⟩ => rfl
  | ⟨1, _⟩ => exact absurd rfl hb

/-- The base rows as a matrix: row `k` of the block's first entries. -/
theorem pay5_apply (v11 : Vec Ideal S25x1x64 .f32) (k : Fin 25) (e : Fin 64) : k0_pay5 v11 (ix2 k e) = v11 (ix3 k 0 e) := by
  pointwise [k0_pay5]

/-- The base rows repeated along the columns. -/
theorem pay7_apply (v11 : Vec Ideal S25x1x64 .f32) (k : Fin 25) (j : Fin 1600) :
    k0_pay7 v11 (ix2 k j) = v11 (ix3 k 0 ⟨j.val % 64, Nat.mod_lt _ (by decide)⟩) := by
  unfold k0_pay7
  exact (tile_apply (k0_pay5 v11) _ k j).trans (pay5_apply v11 k _)

/-- The upper half of the scratch matrix: on the band the difference of the two rows of a field, zero elsewhere. -/
theorem pay9_apply (v11 v13 : Vec Ideal S25x1x64 .f32) (k : Fin 25) (j : Fin 1664) :
    k0_pay9 v11 v13 (ix2 k j) = if j.val / 64 = k.val then
      v13 (ix3 k 0 ⟨j.val % 64, Nat.mod_lt _ (by decide)⟩) - v11 (ix3 k 0 ⟨j.val % 64, Nat.mod_lt _ (by decide)⟩) else 0 := by
  unfold k0_pay9
  generalize hT : concatenate S25x1600 1 _ _ = T
  have hTa : ∀ (k : Fin 25) (j : Fin 1600), T (ix2 k j)
      = v13 (ix3 k 0 ⟨j.val % 64, Nat.mod_lt _ (by decide)⟩) - v11 (ix3 k 0 ⟨j.val % 64, Nat.mod_lt _ (by decide)⟩) := by
    intro k j
    rw [← hT]
    refine (tile_apply _ _ k j).trans ?_
    pointwise [k0_pay5]
  pointwise [k0_pay8]
  have hk := k.isLt
  by_cases hj : j.val < 1600
  · rw [dif_pos hj, band_apply, hTa, Scalar.select_decide]
  · rw [dif_neg hj, if_neg (by omega)]

/-- The bias row over the one-hot part: the sum down the column of the masked base rows. -/
theorem pay2_apply (v11 : Vec Ideal S25x1x64 .f32) (j : Fin 1600) :
    k0_pay2 k0_pay6 (k0_pay7 v11) k0_pay8 (ix2 0 j)
      = ∑ k : Fin 25, if j.val / 64 = k.val then v11 (ix3 k 0 ⟨j.val % 64, Nat.mod_lt _ (by decide)⟩) else 0 := by
  generalize hT : k0_pay7 v11 = T
  have hTa : ∀ (k : Fin 25) (j : Fin 1600), T (ix2 k j) = v11 (ix3 k 0 ⟨j.val % 64, Nat.mod_lt _ (by decide)⟩) := by
    rw [← hT]
    exact pay7_apply v11
  pointwise [k0_pay2, k0_pay8]
  refine Finset.sum_congr rfl fun k _ => ?_
  rw [band_apply, hTa, Scalar.select_decide]

/-- The bias row over the multi-hot part is zero. -/
theorem pay3_apply (e : Fin 64) : k0_pay3 (F := Ideal) (ix2 0 e) = 0 := by
  pointwise [k0_pay3]

/-- The scratch matrix: the upper half in the first rows; below, zero under the one-hot columns and the table rows under
    the rest. -/
theorem pay1_apply (v49 : FVec Ideal S25x1664 .bf16) (v52 : FVec Ideal S200x64 .f32) (k : Fin 225) (j : Fin 1664) :
    k0_pay1 v49 k0_pay10 v52 (ix2 k j)
      = if h : k.val < 25 then v49 (ix2 ⟨k.val, h⟩ j)
        else if h' : j.val < 1600 then 0 else v52 (ix2 ⟨k.val - 25, by omega⟩ ⟨j.val - 1600, by omega⟩) := by
  pointwise [k0_pay1, k0_pay10]

set_option maxRecDepth 16384 in
/-- The output block: the product of the two matrices, plus the bias row. -/
theorem pay4_apply (v3 : Vec Ideal S1024x225 .bf16) (v5 : Vec Ideal S225x1664 .bf16) (v7 : Vec Ideal S1x1664 .f32)
    (b : Fin 1024) (j : Fin 1664) :
    k0_pay4 v3 v5 v7 (ix2 b j) = (∑ k : Fin 225, v3 (ix2 b k) * v5 (ix2 k j)) + v7 (ix2 0 j) := by
  pointwise [k0_pay4]

end Cert.KernelIdeal.Table
-- ==== Proof.Body.lean ====
module

public import proofs.«01_k».proof.Proof.Band
public import proofs.«01_k».proof.Proof.Gen.KernelIdeal.Frame
public import Idealize.ShloMosaic.Lib.Tactic

@[expose] public section

noncomputable section

namespace Cert.KernelIdeal.Table

open Cert.KernelIdeal Cert.KernelIdeal.Gen Idealize.ShloMosaic Idealize.ShloMosaic.TcCoe Idealize.SL.Sem

section
variable {F : FTy → Type} [FloatOps F]

/-- The two zero offsets as a function. -/
theorem zero2 : (![0, 0] : Fin 2 → Nat) = fun _ => 0 := funext fun a => by fin_cases a <;> rfl

/-- The base rows: the first of the two rows the block holds of each field. -/
abbrev baseRows (x1 : Vec F S25x2x64 .f32) : Vec F S25x1x64 .f32 :=
  View.ld x1 (Rect.unit ![0, 0, 0] S25x1x64.size inb_S25x2x64_S25x1x64_0_0_0)

/-- The other rows: the second of the two. -/
abbrev plusRows (x1 : Vec F S25x2x64 .f32) : Vec F S25x1x64 .f32 :=
  View.ld x1 (Rect.unit ![0, 1, 0] S25x1x64.size inb_S25x2x64_S25x1x64_0_1_0)

/-- What the first point stores in the matrix scratch, from the two table blocks. -/
def scratchMat (x1 : Vec F S25x2x64 .f32) (x2 : Vec F S200x64 .f32) : Vec F S225x1664 .bf16 :=
  k0_pay1 (k0_pay9 (baseRows x1) (plusRows x1)) k0_pay10 (k0_pay11 x2)

/-- The two stores that fill the bias scratch, last first. -/
abbrev rowPieces (x1 : Vec F S25x2x64 .f32) : List (View.Piece (Elt F) S1x1664 .f32) :=
  [⟨Rect.unit ![0, 1600] ![1, 64] inb_S1x1664_S1x64_0_1600, k0_pay3⟩,
    ⟨Rect.unit ![0, 0] ![1, 1600] inb_S1x1664_S1x1600_0_0, k0_pay2 k0_pay6 (k0_pay7 (baseRows x1)) k0_pay8⟩]

/-- What the first point leaves in the bias scratch. -/
def scratchRow (x1 : Vec F S25x2x64 .f32) : Vec F S1x1664 .f32 := View.canon (rowPieces x1)

variable (c : Dev nD) (i : grid0.Coords) (a1 : Memref sig .tc .vmem S1024x225 .bf16) (h1 : a1.IsWhole)
    (a2 : Memref sig .tc .vmem S25x2x64 .f32) (h2 : a2.IsWhole) (a3 : Memref sig .tc .vmem S200x64 .f32) (h3 : a3.IsWhole)
    (a4 : Memref sig .tc .vmem S1024x1664 .f32) (h4 : a4.IsWhole) (a5 : Memref sig .tc .vmem S225x1664 .bf16) (h5 : a5.IsWhole)
    (a6 : Memref sig .tc .vmem S1x1664 .f32) (h6 : a6.IsWhole)
    (x0 : Vec F S1024x225 .bf16) (x1 : Vec F S25x2x64 .f32) (x2 : Vec F S200x64 .f32)

/-- At the first point the output block is the product of the index block and the matrix just stored, plus the bias row
    just stored. -/
theorem out_A (hc : cond0_0 i) :
    out0_A_3 c i a1 h1 a2 h2 a3 h3 a4 h4 a5 h5 a6 h6 hc x0 x1 x2 = k0_pay4 x0 (scratchMat x1 x2) (scratchRow x1) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero zero2, View.readCov_unit_zero (S := S225x1664) _ zero2, View.readCov_eq_canon']
  simp only [View.readAt_eq_ld, h1.read_unread, h2.read_unread, h3.read_unread, View.ld_unit_zero (S := S1024x225) zero2,
    View.ld_unit_zero (S := S200x64) zero2]
  exact congrArg (k0_pay4 x0 (scratchMat x1 x2)) (View.ld_unit_zero (S := S1x1664) zero2 _ (scratchRow x1))

/-- The first point leaves the matrix in the matrix scratch, -/
theorem sout_A_0 (hc : cond0_0 i) :
    sout0_A_0 c i a1 h1 a2 h2 a3 h3 a4 h4 a5 h5 a6 h6 hc x0 x1 x2 = scratchMat x1 x2 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  rw [View.canon_unit_zero zero2]
  simp only [View.readAt_eq_ld, h2.read_unread, h3.read_unread, View.ld_unit_zero (S := S200x64) zero2]
  rfl

/-- and the bias row in the bias scratch. -/
theorem sout_A_1 (hc : cond0_0 i) :
    sout0_A_1 c i a1 h1 a2 h2 a3 h3 a4 h4 a5 h5 a6 h6 hc x0 x1 x2 = scratchRow x1 := by
  unfold sout0_A_1
  rw [View.read_writes_eq_canon _ _ _ (scover0_A_1 c i a1 h1 a2 h2 a3 h3 a4 h4 a5 h5 a6 h6 hc x0 x1 x2)]
  unfold kernelRun0_A
  dsimp only
  sl_unfold_words
  simp only [View.readAt_eq_ld, h2.read_unread]
  rfl

/-- At a later point the output block is the product of the index block and what the matrix scratch holds, plus what the
    bias scratch holds. -/
theorem out_B (hc : ¬cond0_0 i) (xs0 : Vec F S225x1664 .bf16) (xs1 : Vec F S1x1664 .f32) :
    out0_B_3 c i a1 h1 a2 h2 a3 h3 a4 h4 a5 h5 a6 h6 hc x0 x1 x2 xs0 xs1 = k0_pay4 x0 xs0 xs1 := by
  unfold out0_B_3
  rw [View.read_writes_eq_canon _ _ _ (cover0_B_3 c i a1 h1 a2 h2 a3 h3 a4 h4 a5 h5 a6 h6 hc x0 x1 x2 xs0 xs1)]
  unfold kernelRun0_B
  dsimp only
  sl_unfold_words
  rw [View.canon_unit_zero zero2]
  simp only [View.readAt_eq_ld, h1.read_unread, h5.read_unread, h6.read_unread, View.ld_unit_zero (S := S1024x225) zero2,
    View.ld_unit_zero (S := S225x1664) zero2, View.ld_unit_zero (S := S1x1664) zero2]

end

/-! ## The scratch at an index, over the extended reals -/

/-- The base rows at an index. -/
theorem baseRows_apply (x1 : Vec Ideal S25x2x64 .f32) (k : Fin 25) (e : Fin 64) : baseRows x1 (ix3 k 0 e) = x1 (ix3 k 0 e) := by
  pointwise [baseRows]

/-- The other rows at an index. -/
theorem plusRows_apply (x1 : Vec Ideal S25x2x64 .f32) (k : Fin 25) (e : Fin 64) : plusRows x1 (ix3 k 0 e) = x1 (ix3 k 1 e) := by
  pointwise [plusRows]

/-- The remainder of a column by sixty-four. -/
abbrev lane (j : ℕ) : Fin 64 := ⟨j % 64, Nat.mod_lt _ (by decide)⟩

/-- The matrix at a row of a field: on the band the difference of that field's two rows, zero elsewhere. -/
theorem scratchMat_top (x1 : Vec Ideal S25x2x64 .f32) (x2 : Vec Ideal S200x64 .f32) (k : Fin 25) (j : Fin 1664) :
    scratchMat x1 x2 (ix2 ⟨k.val, by omega⟩ j)
      = if j.val / 64 = k.val then x1 (ix3 k 1 (lane j.val)) - x1 (ix3 k 0 (lane j.val)) else 0 := by
  unfold scratchMat
  rw [pay1_apply, dif_pos k.isLt, pay9_apply, baseRows_apply, plusRows_apply]

/-- The matrix at a row of the multi-hot part: the table row in the last columns, zero before. -/
theorem scratchMat_bot (x1 : Vec Ideal S25x2x64 .f32) (x2 : Vec Ideal S200x64 .f32) (k : Fin 200) (j : Fin 1664) :
    scratchMat x1 x2 (ix2 ⟨25 + k.val, by omega⟩ j)
      = if h : j.val < 1600 then 0 else x2 (ix2 k ⟨j.val - 1600, by omega⟩) := by
  unfold scratchMat
  rw [pay1_apply, dif_neg (by simp)]
  by_cases h : j.val < 1600
  · rw [dif_pos h, dif_pos h]
  · rw [dif_neg h, dif_neg h]
    pointwise [k0_pay11]

/-- The two places of the bias stores. -/
abbrev lastR : Rect S1x1664 := Rect.unit ![0, 1600] ![1, 64] inb_S1x1664_S1x64_0_1600
abbrev fieldR : Rect S1x1664 := Rect.unit ![0, 0] ![1, 1600] inb_S1x1664_S1x1600_0_0

/-- A place of the field columns, as an index of the row. -/
theorem fieldR_emb (j : Fin 1600) : fieldR.emb (ix2 (n0 := 1) (n1 := 1600) 0 j) = (ix2 0 ⟨j.val, by omega⟩ : S1x1664.Idx) := by
  funext a
  refine Fin.ext ?_
  match a with
  | ⟨0, _⟩ => rfl
  | ⟨1, _⟩ => show 0 + 1 * j.val = j.val; omega

/-- A place of the last columns, as an index of the row. -/
theorem lastR_emb (e : Fin 64) : lastR.emb (ix2 (n0 := 1) (n1 := 64) 0 e) = (ix2 0 ⟨1600 + e.val, by omega⟩ : S1x1664.Idx) := by
  funext a
  refine Fin.ext ?_
  match a with
  | ⟨0, _⟩ => rfl
  | ⟨1, _⟩ => show 1600 + 1 * e.val = 1600 + e.val; omega

/-- A field's column is not among the last columns. -/
theorem not_mem_lastR (j : Fin 1600) : (ix2 0 ⟨j.val, by omega⟩ : S1x1664.Idx) ∉ lastR.set := by
  rw [Rect.mem_set_unit]
  intro h
  have e : (1600 : ℕ) ≤ j.val := (h 1).1
  omega

/-- Two stores, read at a place of the earlier one that the later one leaves alone. -/
theorem canon_two (r r' : Rect S1x1664) (u : r.shape.Idx → Elt Ideal .f32) (v : r'.shape.Idx → Elt Ideal .f32) (x : r'.shape.Idx)
    (h : r'.emb x ∉ r.set) : View.canon (Val := Elt Ideal) (e := .f32) [⟨r, u⟩, ⟨r', v⟩] (r'.emb x) = v x :=
  (View.canon_cons_of_not_mem ⟨r, u⟩ _ h).trans (View.canon_cons_emb r' v [] x)

/-- The two bias stores read at a field's column: the earlier one. -/
theorem canon_second (u : Vec Ideal S1x64 .f32) (v : Vec Ideal S1x1600 .f32) (j : Fin 1600) :
    View.canon (Val := Elt Ideal) (e := .f32) [⟨lastR, u⟩, ⟨fieldR, v⟩] (ix2 0 ⟨j.val, by omega⟩) = v (ix2 0 j) := by
  have h := canon_two lastR fieldR u v (ix2 (n0 := 1) (n1 := 1600) 0 j)
  rw [fieldR_emb] at h
  exact h (not_mem_lastR j)

/-- The two bias stores read at one of the last columns: the later one. -/
theorem canon_first (u : Vec Ideal S1x64 .f32) (v : Vec Ideal S1x1600 .f32) (e : Fin 64) :
    View.canon (Val := Elt Ideal) (e := .f32) [⟨lastR, u⟩, ⟨fieldR, v⟩] (ix2 0 ⟨1600 + e.val, by omega⟩) = u (ix2 0 e) := by
  have h := View.canon_cons_emb (Val := Elt Ideal) (e := .f32) lastR u [⟨fieldR, v⟩] (ix2 (n0 := 1) (n1 := 64) 0 e)
  rw [lastR_emb] at h
  exact h

/-- The bias row over a field's columns: the field's base row. -/
theorem scratchRow_field (x1 : Vec Ideal S25x2x64 .f32) (j : Fin 1600) :
    scratchRow x1 (ix2 0 ⟨j.val, by omega⟩) = x1 (ix3 ⟨j.val / 64, by omega⟩ 0 (lane j.val)) := by
  unfold scratchRow
  rw [canon_second, pay2_apply, Finset.sum_eq_single (⟨j.val / 64, by omega⟩ : Fin 25)]
  · rw [if_pos rfl, baseRows_apply]
  · intro k _ hk
    exact if_neg fun h => hk (Fin.ext h.symm)
  · intro h
    exact absurd (Finset.mem_univ _) h

/-- The bias row over the last columns: zero. -/
theorem scratchRow_last (x1 : Vec Ideal S25x2x64 .f32) (e : Fin 64) :
    scratchRow x1 (ix2 0 ⟨1600 + e.val, by omega⟩) = 0 := by
  unfold scratchRow
  rw [canon_first, pay3_apply]

end Cert.KernelIdeal.Table
-- ==== Proof.Array.lean ====
module

public import proofs.«01_k».proof.Proof.Body

@[expose] public section

noncomputable section

namespace Cert.KernelIdeal.Table

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The index matrix, the two rows of each field, and the rows of the multi-hot part, as the region finds them. -/
abbrev inX : Vec Ideal S4096x225 .bf16 := V m c main_v54
abbrev inTop : Vec Ideal S25x2x64 .f32 := V m c main_v52
abbrev inBot : Vec Ideal S200x64 .f32 := V m c main_v53

/-- The index maps, decided over the grid: the first input's and the output's blocks move down with the point, the two
    table inputs' stay. -/
theorem index_facts : ∀ t : Fin cfg0.N, win0_0.index t 0 = t.val ∧ win0_0.index t 1 = 0
    ∧ win0_1.index t 0 = 0 ∧ win0_1.index t 1 = 0 ∧ win0_1.index t 2 = 0
    ∧ win0_2.index t 0 = 0 ∧ win0_2.index t 1 = 0 ∧ win0_3.index t 0 = t.val ∧ win0_3.index t 1 = 0 :=
  (by decide +kernel : ∀ t : Fin grid0.N, _)

/-- The second input's block is its array at every point. -/
theorem block1 (t : Fin cfg0.N) : iblk m c 1 t = inTop m c := by
  obtain ⟨-, -, e0, e1, e2, -⟩ := index_facts t
  unfold iblk
  funext y
  show inTop m c (((cfg0.win 1).blk t).view.emb y) = inTop m c y
  refine congrArg (inTop m c) (funext fun a => Fin.ext ?_)
  match a with
  | ⟨0, _⟩ => show win0_1.index t 0 * 25 + 1 * (y 0).val = (y 0).val; rw [e0]; omega
  | ⟨1, _⟩ => show win0_1.index t 1 * 2 + 1 * (y 1).val = (y 1).val; rw [e1]; omega
  | ⟨2, _⟩ => show win0_1.index t 2 * 64 + 1 * (y 2).val = (y 2).val; rw [e2]; omega

/-- The third input's block is its array at every point. -/
theorem block2 (t : Fin cfg0.N) : iblk m c 2 t = inBot m c := by
  obtain ⟨-, -, -, -, -, e0, e1, -⟩ := index_facts t
  unfold iblk
  funext y
  show inBot m c (((cfg0.win 2).blk t).view.emb y) = inBot m c y
  refine congrArg (inBot m c) (funext fun a => Fin.ext ?_)
  match a with
  | ⟨0, _⟩ => show win0_2.index t 0 * 200 + 1 * (y 0).val = (y 0).val; rw [e0]; omega
  | ⟨1, _⟩ => show win0_2.index t 1 * 64 + 1 * (y 1).val = (y 1).val; rw [e1]; omega

/-- The number of points is four. -/
theorem point_lt (t : Fin cfg0.N) : t.val < 4 := Nat.lt_of_lt_of_eq t.isLt N_0

/-- A row of a point's block, as a row of the array. -/
theorem row_lt {t r : ℕ} (ht : t < 4) (hr : r < 1024) : t * 1024 + r < 4096 := by omega

/-- The first input's block at a point holds that point's rows. -/
theorem block0_apply (t : Fin cfg0.N) (r : Fin 1024) (k : Fin 225) :
    (iblk m c 0 t : Vec Ideal S1024x225 .bf16) (ix2 r k)
      = inX m c (ix2 ⟨t.val * 1024 + r.val, by have := point_lt t; omega⟩ k) := by
  obtain ⟨e0, e1, -⟩ := index_facts t
  unfold iblk
  show inX m c (((cfg0.win 0).blk t).view.emb (ix2 r k)) = _
  refine congrArg (inX m c) (funext fun a => Fin.ext ?_)
  match a with
  | ⟨0, _⟩ => show win0_0.index t 0 * 1024 + 1 * r.val = t.val * 1024 + r.val; rw [e0]; omega
  | ⟨1, _⟩ => show win0_0.index t 1 * 225 + 1 * k.val = k.val; rw [e1]; omega

/-- After every point the two scratches hold the matrix and the bias row. -/
theorem outs_scratch : ∀ (n : ℕ) (hn : n < cfg0.N),
    (outsAt0 m c n hn).2.1 = scratchMat (inTop m c) (inBot m c) ∧ (outsAt0 m c n hn).2.2 = scratchRow (inTop m c)
  | 0, hn => by
    rw [outsAt0_A m c ⟨0, hn⟩ (Nat.zero_mod 4)]
    dsimp only
    rw [sout_A_0, sout_A_1, block1, block2]
    exact ⟨rfl, rfl⟩
  | n + 1, hn => by
    have h0 : ¬(n + 1) % 4 = 0 := by have := Nat.lt_of_lt_of_eq hn N_0; omega
    rw [outsAt0_B m c ⟨n + 1, hn⟩ h0]
    exact outs_scratch n (Nat.lt_of_succ_lt hn)

/-- After every point the output block is the product of the point's rows and the matrix, plus the bias row. -/
theorem outs_block (t : Fin cfg0.N) :
    (outsAt0 m c t.val t.isLt).1 = k0_pay4 (iblk m c 0 t) (scratchMat (inTop m c) (inBot m c)) (scratchRow (inTop m c)) := by
  by_cases h0 : t.val % 4 = 0
  · rw [outsAt0_A m c t h0]
    dsimp only
    rw [out_A, block1, block2]
  · rw [outsAt0_B m c t h0]
    dsimp only
    rw [out_B]
    obtain ⟨e0, e1⟩ := outs_scratch m c (t.val - 1) (Nat.lt_of_le_of_lt (Nat.sub_le _ _) t.isLt)
    rw [e0, e1]

/-- What the region leaves in its output array: the product of the index matrix and the scratch matrix, plus the bias row. -/
def regionOut : Buf (Elt Ideal) ((c : Thread nD τ).loc main_v55) := fun i =>
  (∑ k : Fin 225, inX m c (ix2 (i 0) k) * scratchMat (inTop m c) (inBot m c) (ix2 k (i 1)))
    + scratchRow (inTop m c) (ix2 0 (i 1))

/-- What a point writes back is its block of that array. -/
theorem flushed_eq (t : Fin cfg0.N) :
    (dats m 0 c).flushed 3 t = ((cfg0.win 3).blk t).view.read (Elt Ideal) (regionOut m c) := by
  show (cfg0.win 3).cut (grid0.coords t) ((dats m 0 c).after 3 t) = _
  rw [after0_3, outs_block]
  obtain ⟨-, -, -, -, -, -, -, e0, e1⟩ := index_facts t
  funext y
  have h0 : (((cfg0.win 3).blk t).view.emb y 0 : Fin 4096) = ⟨t.val * 1024 + (y 0).val, by
      have := point_lt t; have h : (y 0).val < 1024 := (y 0).isLt; exact row_lt (point_lt t) h⟩ := by
    refine Fin.ext ?_
    show win0_3.index t 0 * 1024 + 1 * (y 0).val = t.val * 1024 + (y 0).val
    rw [e0, Nat.one_mul]
  have h1 : (((cfg0.win 3).blk t).view.emb y 1 : Fin 1664) = ⟨(y 1).val, (y 1).isLt⟩ := by
    refine Fin.ext ?_
    show win0_3.index t 1 * 1664 + 1 * (y 1).val = (y 1).val
    rw [e1]; omega
  have hy : (cfg0.win 3).xinj (grid0.coords t) y = ix2 (n0 := 1024) (n1 := 1664) ⟨(y 0).val, (y 0).isLt⟩ ⟨(y 1).val, (y 1).isLt⟩ := by
    funext a
    match a with
    | ⟨0, _⟩ => rfl
    | ⟨1, _⟩ => rfl
  show k0_pay4 (iblk m c 0 t) (scratchMat (inTop m c) (inBot m c)) (scratchRow (inTop m c)) ((cfg0.win 3).xinj (grid0.coords t) y)
    = regionOut m c (((cfg0.win 3).blk t).view.emb y)
  rw [hy, pay4_apply]
  unfold regionOut
  rw [h0, h1]
  exact congrArg₂ (· + ·) (Finset.sum_congr rfl fun k _ => congrArg₂ (· * ·) (block0_apply m c t _ k) rfl) rfl

/-- An index lies in a point's block exactly when each coordinate is in the block's range. -/
theorem mem_block (t : Fin cfg0.N) (i : S4096x1664.Idx) : i ∈ ((cfg0.win 3).blk t).view.set ↔
    ∀ a : Fin 2, win0_3.index t a * S1024x1664.size a ≤ (i a).val
      ∧ (i a).val < win0_3.index t a * S1024x1664.size a + S1024x1664.size a := by
  show i ∈ ((View.whole main_v55).slice (win0_3.rect t)).set ↔ _
  rw [View.set_slice_whole, Rect.mem_set_unit]
  exact Iff.rfl

/-- Every index of the output array lies in some point's block. -/
theorem covered (i : S4096x1664.Idx) : ∃ t : Fin cfg0.N, (cfg0.win 3).flush t = true ∧ i ∈ ((cfg0.win 3).blk t).view.set := by
  have hi0 : (i 0).val < 4096 := (i 0).isLt
  have hi1 : (i 1).val < 1664 := (i 1).isLt
  refine ⟨⟨(i 0).val / 1024, Nat.lt_of_lt_of_eq (by omega) N_0.symm⟩, flush0_3 _, ?_⟩
  obtain ⟨-, -, -, -, -, -, -, e0, e1⟩ := index_facts ⟨(i 0).val / 1024, Nat.lt_of_lt_of_eq (by omega) N_0.symm⟩
  rw [mem_block]
  intro a
  match a with
  | ⟨0, _⟩ =>
    show win0_3.index _ 0 * 1024 ≤ (i 0).val ∧ (i 0).val < win0_3.index _ 0 * 1024 + 1024
    rw [e0]
    show (i 0).val / 1024 * 1024 ≤ (i 0).val ∧ (i 0).val < (i 0).val / 1024 * 1024 + 1024
    omega
  | ⟨1, _⟩ =>
    show win0_3.index _ 1 * 1664 ≤ (i 1).val ∧ (i 1).val < win0_3.index _ 1 * 1664 + 1664
    rw [e1]; omega

/-- The region's output array after the run. -/
theorem region_final : (dats m 0 c).arrAt 3 cfg0.N = regionOut m c :=
  (dats m 0 c).arrAt_eq_of_cover 3 _ (fun t _ => flushed_eq m c t) covered

/-- What the kernel returns: the region's output array reshaped. -/
def result : Buf (Elt Ideal) ((c : Thread nD τ).loc main_v56) :=
  shapeCast S4096x26x64 (regionOut m c) shapeCasts_S4096x1664_S4096x26x64

/-- After the lines behind the region the returned array holds that. -/
theorem tail_main_v56 : Pipeline.afterTail₀ cfgs (dats m) 0 (V0 m) [hostOps1] c main_v56 = result m c := by
  have h : Pipeline.withArrays (cfgs 0).spec c (V0 m c) (fun w => (dats m 0 c).arrAt w (cfgs 0).N) (Proc.devRef .tc main_v55)
      = regionOut m c :=
    (Pipeline.withArrays_arr (cfgs 0).spec launch0.win.arr_inj c (V0 m c) (fun w => (dats m 0 c).arrAt w (cfgs 0).N) 3).trans
      (region_final m c)
  unfold Pipeline.afterTail₀
  generalize Pipeline.withArrays (cfgs 0).spec c (V0 m c) (fun w => (dats m 0 c).arrAt w (cfgs 0).N) = W at h ⊢
  show StableHlo.after hostOps1 W (Proc.devRef .tc main_v56) = _
  unfold hostOps1
  rw [StableHlo.after_cons, StableHlo.after_nil, StableHlo.reshape_result, h]
  rfl

end Cert.KernelIdeal.Table
-- ==== Proof.Host.lean ====
module

public import proofs.«01_k».proof.Proof.Array
public import Idealize.ShloMosaic.Lib.StableHlo.RunRead

@[expose] public section

noncomputable section

namespace Cert.KernelIdeal.Table

open Cert.KernelIdeal Cert.KernelIdeal.Gen Idealize.ShloMosaic Idealize.ShloMosaic.TcCoe Idealize.SL.Sem

variable (m : (ℓ : Loc nD τ sig) → Buf (Elt Ideal) ℓ) (c : Dev nD)

/-- The three arguments as the run finds them. -/
abbrev argX : Vec Ideal S4096x225 .i32 := m ((c.tc : Thread nD τ).loc main_arg0)
abbrev argT : Vec Ideal S100201x64 .f32 := m ((c.tc : Thread nD τ).loc main_arg1)
abbrev argO : Vec Ideal S26 .i32 := m ((c.tc : Thread nD τ).loc main_arg2)

/-- The index matrix is the first argument, its words taken as numbers. -/
theorem inX_apply (b : Fin 4096) (k : Fin 225) : inX m c (ix2 b k) = (((argX m c (ix2 b k)).toInt : ℝ) : EReal) := by
  have h : inX m c = (sitofp (F := Ideal) .bf16 (argX m c) : FVec Ideal S4096x225 .bf16) := by
    unfold inX V V0
    simp only [List.flatten_cons, List.flatten_nil, List.append_nil]
    after_reads_simp
  rw [h]
  rfl

/-- The rows of the multi-hot part are the table's last two hundred. -/
theorem inBot_apply (k : Fin 200) (e : Fin 64) : inBot m c (ix2 k e) = argT m c (ix2 ⟨100001 + k.val, by omega⟩ e) := by
  have h : inBot m c = extractStridedSlice S200x64 ![100001, 0] (argT m c) slices_S100201x64_S200x64_100001_0 := by
    unfold inBot V V0
    simp only [List.flatten_cons, List.flatten_nil, List.append_nil]
    after_reads_simp
  rw [h]
  pointwise

/-- Two rows of the table stay inside it, for each field. -/
theorem pair_slices : ∀ k : Fin 25, S100201x64.Slices ![4000 * k.val, 0] S2x64 := by decide

/-- Field `k`'s two rows of the table, as a block of one field. -/
def pair (T : Vec Ideal S100201x64 .f32) (k : Fin 25) : Vec Ideal S1x2x64 .f32 :=
  broadcastInDim S1x2x64 ![1, 2] bcast_S2x64_S1x2x64_1_2 (extractStridedSlice S2x64 ![4000 * k.val, 0] T (pair_slices k))

/-- A field's block at an index: the table's row. -/
theorem pair_apply (T : Vec Ideal S100201x64 .f32) (k : Fin 25) (s : Fin 2) (e : Fin 64) :
    pair T k (ix3 0 s e) = T (ix2 ⟨4000 * k.val + s.val, by omega⟩ e) := by
  pointwise [pair]

/-- Two concatenations of equal lists are equal. -/
theorem cat_congr {α : Type} {t : Shape} (a : Fin t.rank) (xs ys : List ((s : Shape) × (s.Idx → α)))
    (hx : Shape.Concatenates (xs.map (·.1)) t a) (hy : Shape.Concatenates (ys.map (·.1)) t a) (h : xs = ys) :
    concatenate t a xs hx = concatenate t a ys hy := by
  subst h
  rfl

/-- The blocks of the first sixteen fields and of the last nine. -/
abbrev pairsLo (T : Vec Ideal S100201x64 .f32) : List ((s : Shape) × (s.Idx → Ideal .f32)) :=
  List.ofFn fun n : Fin 16 => ⟨S1x2x64, pair T ⟨n.val, by omega⟩⟩
abbrev pairsHi (T : Vec Ideal S100201x64 .f32) : List ((s : Shape) × (s.Idx → Ideal .f32)) :=
  List.ofFn fun n : Fin 9 => ⟨S1x2x64, pair T ⟨16 + n.val, by omega⟩⟩

/-- Their stacks are as high as their number. -/
theorem stack_lo (T : Vec Ideal S100201x64 .f32) : Shape.Concatenates ((pairsLo T).map (·.1)) S16x2x64 0 :=
  concatenates_S1x2x64_S1x2x64_S1x2x64_S1x2x64_S1x2x64_S1x2x64_S1x2x64_S1x2x64_S1x2x64_S1x2x64_S1x2x64_S1x2x64_S1x2x64_S1x2x64_S1x2x64_S1x2x64_S16x2x64_d0
theorem stack_hi (T : Vec Ideal S100201x64 .f32) : Shape.Concatenates ((pairsHi T).map (·.1)) S9x2x64 0 :=
  concatenates_S1x2x64_S1x2x64_S1x2x64_S1x2x64_S1x2x64_S1x2x64_S1x2x64_S1x2x64_S1x2x64_S9x2x64_d0

/-- The host's first stack. -/
theorem v50_eq : StableHlo.upto hostOps0 (fun b => m (c, b)) 52 (Proc.devRef .tc main_v50)
    = concatenate S16x2x64 0 (pairsLo (argT m c)) (stack_lo _) := by
  after_reads_simp
  refine cat_congr _ _ _ _ _ ?_
  after_reads_simp
  rfl

/-- The host's second stack. -/
theorem v51_eq : StableHlo.upto hostOps0 (fun b => m (c, b)) 52 (Proc.devRef .tc main_v51)
    = concatenate S9x2x64 0 (pairsHi (argT m c)) (stack_hi _) := by
  after_reads_simp
  refine cat_congr _ _ _ _ _ ?_
  after_reads_simp
  rfl

/-- The two rows of every field, as the region finds them. -/
theorem inTop_eq : inTop m c = concatenate S25x2x64 0
    [⟨S16x2x64, concatenate S16x2x64 0 (pairsLo (argT m c)) (stack_lo _)⟩,
      ⟨S9x2x64, concatenate S9x2x64 0 (pairsHi (argT m c)) (stack_hi _)⟩] concatenates_S16x2x64_S9x2x64_S25x2x64_d0 := by
  unfold inTop V V0
  simp only [List.flatten_cons, List.flatten_nil, List.append_nil]
  after_reads_simp
  refine cat_congr _ _ _ _ _ ?_
  rw [v50_eq, v51_eq]

/-- The two rows of a field: the table's rows at four thousand times the field. -/
theorem inTop_apply (k : Fin 25) (s : Fin 2) (e : Fin 64) :
    inTop m c (ix3 k s e) = argT m c (ix2 ⟨4000 * k.val + s.val, by omega⟩ e) := by
  rw [inTop_eq]
  have hk := k.isLt
  have lo : ∀ n : Fin 16, concatenate S16x2x64 0 (pairsLo (argT m c)) (stack_lo _) (ix3 n s e)
      = pair (argT m c) ⟨n.val, by omega⟩ (ix3 0 s e) := fun n => by
    refine concatenate_ofFn_apply 0 (fun n : Fin 16 => pair (argT m c) ⟨n.val, by omega⟩) (stack_lo _) rfl 1 rfl (ix3 n s e) n
      (Nat.div_one _) (ix3 0 s e) (Nat.mod_one _).symm ?_
    intro b hb
    match b with
    | ⟨0, _⟩ => exact absurd rfl hb
    | ⟨1, _⟩ => rfl
    | ⟨2, _⟩ => rfl
  have hi : ∀ n : Fin 9, concatenate S9x2x64 0 (pairsHi (argT m c)) (stack_hi _) (ix3 n s e)
      = pair (argT m c) ⟨16 + n.val, by omega⟩ (ix3 0 s e) := fun n => by
    refine concatenate_ofFn_apply 0 (fun n : Fin 9 => pair (argT m c) ⟨16 + n.val, by omega⟩) (stack_hi _) rfl 1 rfl (ix3 n s e) n
      (Nat.div_one _) (ix3 0 s e) (Nat.mod_one _).symm ?_
    intro b hb
    match b with
    | ⟨0, _⟩ => exact absurd rfl hb
    | ⟨1, _⟩ => rfl
    | ⟨2, _⟩ => rfl
  generalize concatenate S16x2x64 0 (pairsLo (argT m c)) (stack_lo _) = A at lo ⊢
  generalize concatenate S9x2x64 0 (pairsHi (argT m c)) (stack_hi _) = B at hi ⊢
  pointwise
  by_cases h : k.val < 16
  · rw [dif_pos h, lo, pair_apply]
  · rw [dif_neg h, hi, pair_apply]
    exact congrArg (argT m c) (congrArg (ix2 · e) (Fin.ext (by show 4000 * (16 + (k.val - 16)) + s.val = 4000 * k.val + s.val; omega)))

end Cert.KernelIdeal.Table
-- ==== Proof.Result.lean ====
module

public import proofs.«01_k».proof.Proof.Host

@[expose] public section

noncomputable section

namespace Cert.KernelIdeal.Table

open Cert.KernelIdeal Cert.KernelIdeal.Gen Idealize.ShloMosaic Idealize.ShloMosaic.TcCoe Idealize.SL.Sem

variable (m : (ℓ : Loc nD τ sig) → Buf (Elt Ideal) ℓ) (c : Dev nD)

/-- The returned array at an index: the region's array at the flat column. -/
theorem result_apply (b : Fin 4096) (i : Fin 26) (e : Fin 64) :
    result m c (ix3 b i e) = regionOut m c (ix2 b ⟨i.val * 64 + e.val, by omega⟩) := by
  unfold result
  generalize regionOut m c = R
  pointwise

/-- The region's array at an index, its sum split in the rows of the fields and those of the multi-hot part. -/
theorem regionOut_apply (b : Fin 4096) (j : Fin 1664) :
    regionOut m c (ix2 b j)
      = ((∑ k : Fin 25, inX m c (ix2 b ⟨k.val, by omega⟩) * scratchMat (inTop m c) (inBot m c) (ix2 ⟨k.val, by omega⟩ j))
        + ∑ k : Fin 200, inX m c (ix2 b ⟨25 + k.val, by omega⟩) * scratchMat (inTop m c) (inBot m c) (ix2 ⟨25 + k.val, by omega⟩ j))
        + scratchRow (inTop m c) (ix2 0 j) := by
  refine congrArg (· + scratchRow (inTop m c) (ix2 0 j)) ?_
  exact Fin.sum_univ_add (fun k : Fin (25 + 200) => inX m c (ix2 b k) * scratchMat (inTop m c) (inBot m c) (ix2 k j))

/-- A real number added back to what it was subtracted from. -/
theorem sub_add_back (p q : EReal) (h1 : q ≠ ⊥) (h2 : q ≠ ⊤) : p - q + q = p := by
  lift q to ℝ using ⟨h2, h1⟩
  exact EReal.sub_add_cancel

/-- An index word that is zero or one, as a number times another. -/
theorem word_mul (w : BitVec 32) (h : w = 0#32 ∨ w = 1#32) (p : EReal) :
    (((w.toInt : ℝ) : EReal)) * p = if w = 0#32 then 0 else p := by
  rcases h with rfl | rfl
  · rw [if_pos rfl]
    simp
  · rw [if_neg (by decide)]
    simp

/-- **A field's part of the result**: the table's row the field's index word picks out of the field's first two. -/
theorem result_field (b : Fin 4096) (i : Fin 25) (e : Fin 64)
    (hx : argX m c (ix2 b ⟨i.val, by omega⟩) = 0#32 ∨ argX m c (ix2 b ⟨i.val, by omega⟩) = 1#32)
    (h1 : argT m c (ix2 ⟨4000 * i.val, by omega⟩ e) ≠ ⊥) (h2 : argT m c (ix2 ⟨4000 * i.val, by omega⟩ e) ≠ ⊤) :
    result m c (ix3 b ⟨i.val, by omega⟩ e)
      = if argX m c (ix2 b ⟨i.val, by omega⟩) = 0#32 then argT m c (ix2 ⟨4000 * i.val, by omega⟩ e)
        else argT m c (ix2 ⟨4000 * i.val + 1, by omega⟩ e) := by
  have hi := i.isLt
  have he := e.isLt
  have hq : (i.val * 64 + e.val) / 64 = i.val := by omega
  have hr : (i.val * 64 + e.val) % 64 = e.val := by omega
  have hl : lane (i.val * 64 + e.val) = e := Fin.ext hr
  have hj : i.val * 64 + e.val < 1600 := by omega
  rw [result_apply, regionOut_apply]
  have bot : (∑ k : Fin 200, inX m c (ix2 b ⟨25 + k.val, by omega⟩)
      * scratchMat (inTop m c) (inBot m c) (ix2 ⟨25 + k.val, by omega⟩ ⟨i.val * 64 + e.val, by omega⟩)) = 0 := by
    refine Finset.sum_eq_zero fun k _ => ?_
    rw [scratchMat_bot, dif_pos hj]
    exact mul_zero _
  have top : (∑ k : Fin 25, inX m c (ix2 b ⟨k.val, by omega⟩)
      * scratchMat (inTop m c) (inBot m c) (ix2 ⟨k.val, by omega⟩ ⟨i.val * 64 + e.val, by omega⟩))
      = if argX m c (ix2 b ⟨i.val, by omega⟩) = 0#32 then 0
        else argT m c (ix2 ⟨4000 * i.val + 1, by omega⟩ e) - argT m c (ix2 ⟨4000 * i.val, by omega⟩ e) := by
    rw [Finset.sum_eq_single i]
    · rw [scratchMat_top, if_pos hq, inX_apply, word_mul _ hx]
      dsimp only
      rw [hl, inTop_apply, inTop_apply]
      rfl
    · intro k _ hk
      rw [scratchMat_top, if_neg (fun h => hk (Fin.ext (h.symm.trans hq)))]
      exact mul_zero _
    · intro h
      exact absurd (Finset.mem_univ _) h
  have row : scratchRow (inTop m c) (ix2 0 ⟨i.val * 64 + e.val, by omega⟩) = argT m c (ix2 ⟨4000 * i.val, by omega⟩ e) := by
    refine (scratchRow_field (inTop m c) ⟨i.val * 64 + e.val, hj⟩).trans ?_
    rw [inTop_apply]
    refine congrArg (argT m c) (congrArg₂ ix2 (Fin.ext ?_) hl)
    show 4000 * ((i.val * 64 + e.val) / 64) + 0 = 4000 * i.val
    omega
  rw [top, bot, row]
  by_cases h : argX m c (ix2 b ⟨i.val, by omega⟩) = 0#32
  · rw [if_pos h, if_pos h]
    simp
  · rw [if_neg h, if_neg h, add_zero]
    exact sub_add_back _ _ h1 h2

/-- **The multi-hot part of the result**: the sum of the table's rows whose index word is set. -/
theorem result_bag (b : Fin 4096) (e : Fin 64)
    (hx : ∀ k : Fin 200, argX m c (ix2 b ⟨25 + k.val, by omega⟩) = 0#32 ∨ argX m c (ix2 b ⟨25 + k.val, by omega⟩) = 1#32) :
    (result m c (ix3 b 25 e) : EReal)
      = ∑ k : Fin 200, if argX m c (ix2 b ⟨25 + k.val, by omega⟩) = 0#32 then (0 : EReal)
          else argT m c (ix2 ⟨100001 + k.val, by omega⟩ e) := by
  have he := e.isLt
  rw [result_apply, regionOut_apply]
  change @Eq EReal _ _
  have top : (∑ k : Fin 25, inX m c (ix2 b ⟨k.val, by omega⟩)
      * scratchMat (inTop m c) (inBot m c) (ix2 ⟨k.val, by omega⟩ ⟨(25 : Fin 26).val * 64 + e.val, by show 25 * 64 + e.val < 1664; omega⟩)) = 0 := by
    refine Finset.sum_eq_zero fun k _ => ?_
    rw [scratchMat_top, if_neg]
    · exact mul_zero _
    · intro h
      have h' : (25 * 64 + e.val) / 64 = k.val := h
      have := k.isLt
      omega
  have row : scratchRow (inTop m c) (ix2 0 ⟨(25 : Fin 26).val * 64 + e.val, by show 25 * 64 + e.val < 1664; omega⟩) = 0 :=
    scratchRow_last (inTop m c) e
  rw [top, row]
  refine (add_zero (_ : EReal)).trans ((zero_add (_ : EReal)).trans ?_)
  refine Finset.sum_congr rfl fun k _ => ?_
  rw [scratchMat_bot, dif_neg (by show ¬25 * 64 + e.val < 1600; omega), inX_apply, word_mul _ (hx k), inBot_apply]
  refine if_congr Iff.rfl rfl (congrArg (argT m c) (congrArg (ix2 _) (Fin.ext ?_)))
  show 25 * 64 + e.val - 1600 = e.val
  omega

end Cert.KernelIdeal.Table
-- ==== Proof.Gather.lean ====
module

public import proofs.«01_k».proof.Proof.Gen.ReferenceIdeal.Run
public import Idealize.ShloMosaic.Lib.Pointwise

@[expose] public section

noncomputable section

namespace Cert.ReferenceIdeal.Table

open Cert.ReferenceIdeal Cert.ReferenceIdeal.Gen Idealize.ShloMosaic

/-- The dimension numbers of a look-up of whole rows: an operand of `N` rows of `E` columns, an array `[B, C, 1]` of row
    numbers, a result `[B, C, E]`. -/
abbrev rowDims (N E B C : Nat)
    (wf : GatherDims.WF ⟨2, ![N, E]⟩ ⟨3, ![B, C, 1]⟩ ⟨3, ![B, C, E]⟩ [2] [0] [] [0] [] 2 ![1, E]) :
    GatherDims ⟨2, ![N, E]⟩ ⟨3, ![B, C, 1]⟩ ⟨3, ![B, C, E]⟩ where
  offsetDims := [2]
  collapsedSliceDims := [0]
  operandBatchingDims := []
  startIndicesBatchingDims := []
  startIndexMap := [0]
  indexVectorDim := 2
  sliceSizes := ![1, E]
  wf := wf

/-- A look-up of whole rows at an index whose row number `r` is in range: column `e` of row `r`. -/
theorem gather_row {α : Type} {N E B C : Nat}
    (wf : GatherDims.WF ⟨2, ![N, E]⟩ ⟨3, ![B, C, 1]⟩ ⟨3, ![B, C, E]⟩ [2] [0] [] [0] [] 2 ![1, E])
    (T : (⟨2, ![N, E]⟩ : Shape).Idx → α) (I : IVec ⟨3, ![B, C, 1]⟩ 32) (b : Fin B) (i : Fin C) (e : Fin E)
    (r : Fin N) (hr : I (ix3 b i 0) = BitVec.ofNat 32 r.val) (hN : N < 2 ^ 31) :
    Host.gather (rowDims N E B C wf) T I (ix3 b i e) = T (ix2 r e) := by
  have hn : (I (ix3 b i 0)).toInt.toNat = r.val := by
    rw [hr]
    have := r.isLt
    rw [BitVec.toInt_eq_toNat_of_lt (by rw [BitVec.toNat_ofNat]; omega), BitVec.toNat_ofNat]
    omega
  refine congrArg T (funext fun a => Fin.ext ?_)
  show (rowDims N E B C wf).start (ix3 b i e) I a + (rowDims N E B C wf).batchCoord (ix3 b i e) a
    + (rowDims N E B C wf).offCoord (ix3 b i e) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    have hs : (rowDims N E B C wf).siIdx (ix3 b i e) ⟨0, Nat.one_pos⟩ = ix3 b i 0 := by
      funext q
      match q with
      | ⟨0, _⟩ => rfl
      | ⟨1, _⟩ => rfl
      | ⟨2, _⟩ => rfl
    have hm : min (I ((rowDims N E B C wf).siIdx (ix3 b i e) ⟨0, Nat.one_pos⟩)).toInt.toNat (N - 1) = r.val := by
      rw [hs, hn]
      have := r.isLt
      omega
    exact hm
  | ⟨1, _⟩ => exact Nat.zero_add _

end Cert.ReferenceIdeal.Table
-- ==== Proof.Taken.lean ====
module

public import proofs.«01_k».proof.Proof.Gather

@[expose] public section

noncomputable section

namespace Cert.ReferenceIdeal.Table

open Cert.ReferenceIdeal Cert.ReferenceIdeal.Gen Idealize.ShloMosaic

/-- A conjunction of set bits, starting from a set bit, is set. -/
theorem all_set {s t u : Shape} {axes : List (Fin s.rank)} (x : IVec s 1) (z : IVec u 1) (h : s.ReducesTo axes t) (hu : 0 < u.numel)
    (hx : ∀ i, x i = 1#1) (hz : ∀ i, z i = 1#1) (j : t.Idx) : Host.reduce IntOp.andi x z h hu j = 1#1 := by
  classical
  rw [Host.reduce_eq_fold, hz]
  generalize Finset.univ.filter (fun i => h.drop i = j) = S
  induction S using Finset.induction_on with
  | empty => rfl
  | insert a S ha ih => rw [Finset.fold_insert ha, ih, hx]; rfl

/-- The number a row number in range stands for. -/
theorem word_toInt (r : Fin 100201) : (BitVec.ofNat 32 r.val).toInt = (r.val : ℤ) := by
  have hr := r.isLt
  rw [BitVec.toInt_eq_toNat_of_lt (by rw [BitVec.toNat_ofNat]; omega), BitVec.toNat_ofNat]
  omega

/-- A row number in range is not negative. -/
theorem not_neg (r : Fin 100201) : IntOp.cmpi .slt (BitVec.ofNat 32 r.val) 0#32 = 0#1 := by
  have h := word_toInt r
  simp only [IntOp.cmpi, BitVec.slt, h]
  rw [decide_eq_false (by simp)]
  rfl

/-- A row number in range passes both range tests. -/
theorem in_range (r : Fin 100201) :
    IntOp.andi (IntOp.cmpi .sge (BitVec.ofNat 32 r.val) 0#32) (IntOp.cmpi .sle (BitVec.ofNat 32 r.val) 100200#32) = 1#1 := by
  have h := word_toInt r
  have hr := r.isLt
  simp only [IntOp.cmpi, BitVec.sle, h]
  rw [decide_eq_true (by simp), decide_eq_true (by rw [show (100200#32 : BitVec 32).toInt = 100200 from rfl]; omega)]
  rfl

section Fields

variable (T : FVec Ideal S100201x64 .f32) (I : IVec S4096x25 32)

/-- The row numbers of the fields, one more axis at the end, a negative one counted from the table's end. -/
def wrapped25 : IVec S4096x25x1 32 :=
  broadcastInDim S4096x25x1 ![0, 1] bcast_S4096x25_S4096x25x1_0_1
    (select (cmpi .slt I (broadcastInDim S4096x25 ![] bcast_S_S4096x25 (constantI S_ 32 0#32)))
      (addi I (broadcastInDim S4096x25 ![] bcast_S_S4096x25 (constantI S_ 32 100201#32))) I)

/-- Which of the fields' row numbers are in range. -/
def ranged25 : IVec S4096x25x1 1 :=
  andi (cmpi .sge (wrapped25 I) (broadcastInDim S4096x25x1 ![] bcast_S_S4096x25x1 (constantI S_ 32 0#32)))
    (cmpi .sle (wrapped25 I) (broadcastInDim S4096x25x1 ![0, 1, 2] bcast_S1x1x1_S4096x25x1_0_1_2
      (broadcastInDim S1x1x1 ![2] bcast_S1_S1x1x1_2 (constantI S1 32 100200#32))))

/-- The rows looked up for the fields: the table's where the row number is in range. -/
def taken25 : FVec Ideal S4096x25x64 .f32 :=
  select (broadcastInDim S4096x25x64 ![0, 1] bcast_S4096x25_S4096x25x64_0_1
      (Host.reduce IntOp.andi (ranged25 I) (constantI S_ 1 1#1) reducesTo_S4096x25x1_S4096x25_d2 h_S_))
    (Host.gather gather_S100201x64_S4096x25x1_S4096x25x64_2_0_n_n_0_2_164 T (wrapped25 I))
    (broadcastInDim S4096x25x64 ![] bcast_S_S4096x25x64 (constant S_ .f32 0x7FC00000#32))

variable {I}

/-- A row number of a field that is in range is kept as it is. -/
theorem wrapped25_apply (b : Fin 4096) (i : Fin 25) (r : Fin 100201) (hr : I (ix2 b i) = BitVec.ofNat 32 r.val) (k : Fin 1) :
    wrapped25 I (ix3 b i k) = BitVec.ofNat 32 r.val := by
  pointwise [wrapped25]
  rw [hr, not_neg]
  rfl

/-- A look-up for a field whose row numbers are all in range: the table's row. -/
theorem taken25_apply (hI : ∀ b i, ∃ r : Fin 100201, I (ix2 b i) = BitVec.ofNat 32 r.val) (b : Fin 4096) (i : Fin 25)
    (e : Fin 64) (r : Fin 100201) (hr : I (ix2 b i) = BitVec.ofNat 32 r.val) : taken25 T I (ix3 b i e) = T (ix2 r e) := by
  have hone : ∀ j, ranged25 I j = 1#1 := by
    intro j
    idx_vars j
    obtain ⟨s, hs⟩ := hI j0 j1
    pointwise [ranged25]
    rw [wrapped25_apply j0 j1 s hs]
    exact in_range s
  have hm : ∀ j, Host.reduce IntOp.andi (ranged25 I) (constantI S_ 1 1#1) reducesTo_S4096x25x1_S4096x25_d2 h_S_ j = 1#1 :=
    all_set _ _ _ _ hone fun _ => rfl
  have hg := gather_row (gather_S100201x64_S4096x25x1_S4096x25x64_2_0_n_n_0_2_164).wf T (wrapped25 I) b i e r
    (wrapped25_apply b i r hr 0) (by omega)
  unfold taken25
  generalize Host.reduce IntOp.andi (ranged25 I) (constantI S_ 1 1#1) reducesTo_S4096x25x1_S4096x25_d2 h_S_ = M at hm ⊢
  refine Eq.trans ?_ hg
  show Scalar.select (M _) _ _ = _
  rw [hm]
  rfl

end Fields

section Bag

variable (T : FVec Ideal S100201x64 .f32) (I : IVec S4096x200 32)

/-- The row numbers of the multi-hot items, one more axis at the end, a negative one counted from the table's end. -/
def wrapped200 : IVec S4096x200x1 32 :=
  broadcastInDim S4096x200x1 ![0, 1] bcast_S4096x200_S4096x200x1_0_1
    (select (cmpi .slt I (broadcastInDim S4096x200 ![] bcast_S_S4096x200 (constantI S_ 32 0#32)))
      (addi I (broadcastInDim S4096x200 ![] bcast_S_S4096x200 (constantI S_ 32 100201#32))) I)

/-- Which of the items' row numbers are in range. -/
def ranged200 : IVec S4096x200x1 1 :=
  andi (cmpi .sge (wrapped200 I) (broadcastInDim S4096x200x1 ![] bcast_S_S4096x200x1 (constantI S_ 32 0#32)))
    (cmpi .sle (wrapped200 I) (broadcastInDim S4096x200x1 ![0, 1, 2] bcast_S1x1x1_S4096x200x1_0_1_2
      (broadcastInDim S1x1x1 ![2] bcast_S1_S1x1x1_2 (constantI S1 32 100200#32))))

/-- The rows looked up for the items: the table's where the row number is in range. -/
def taken200 : FVec Ideal S4096x200x64 .f32 :=
  select (broadcastInDim S4096x200x64 ![0, 1] bcast_S4096x200_S4096x200x64_0_1
      (Host.reduce IntOp.andi (ranged200 I) (constantI S_ 1 1#1) reducesTo_S4096x200x1_S4096x200_d2 h_S_))
    (Host.gather gather_S100201x64_S4096x200x1_S4096x200x64_2_0_n_n_0_2_164 T (wrapped200 I))
    (broadcastInDim S4096x200x64 ![] bcast_S_S4096x200x64 (constant S_ .f32 0x7FC00000#32))

variable {I}

/-- A row number of an item that is in range is kept as it is. -/
theorem wrapped200_apply (b : Fin 4096) (i : Fin 200) (r : Fin 100201) (hr : I (ix2 b i) = BitVec.ofNat 32 r.val) (k : Fin 1) :
    wrapped200 I (ix3 b i k) = BitVec.ofNat 32 r.val := by
  pointwise [wrapped200]
  rw [hr, not_neg]
  rfl

/-- A look-up for an item whose row numbers are all in range: the table's row. -/
theorem taken200_apply (hI : ∀ b i, ∃ r : Fin 100201, I (ix2 b i) = BitVec.ofNat 32 r.val) (b : Fin 4096) (i : Fin 200)
    (e : Fin 64) (r : Fin 100201) (hr : I (ix2 b i) = BitVec.ofNat 32 r.val) : taken200 T I (ix3 b i e) = T (ix2 r e) := by
  have hone : ∀ j, ranged200 I j = 1#1 := by
    intro j
    idx_vars j
    obtain ⟨s, hs⟩ := hI j0 j1
    pointwise [ranged200]
    rw [wrapped200_apply j0 j1 s hs]
    exact in_range s
  have hm : ∀ j, Host.reduce IntOp.andi (ranged200 I) (constantI S_ 1 1#1) reducesTo_S4096x200x1_S4096x200_d2 h_S_ j = 1#1 :=
    all_set _ _ _ _ hone fun _ => rfl
  have hg := gather_row (gather_S100201x64_S4096x200x1_S4096x200x64_2_0_n_n_0_2_164).wf T (wrapped200 I) b i e r
    (wrapped200_apply b i r hr 0) (by omega)
  unfold taken200
  generalize Host.reduce IntOp.andi (ranged200 I) (constantI S_ 1 1#1) reducesTo_S4096x200x1_S4096x200_d2 h_S_ = M at hm ⊢
  refine Eq.trans ?_ hg
  show Scalar.select (M _) _ _ = _
  rw [hm]
  rfl

end Bag

end Cert.ReferenceIdeal.Table
-- ==== Proof.Reference.lean ====
module

public import proofs.«01_k».proof.Proof.Taken

@[expose] public section

noncomputable section

namespace Cert.ReferenceIdeal.Table

open Cert.ReferenceIdeal Cert.ReferenceIdeal.Gen Idealize.ShloMosaic Idealize.ShloMosaic.TcCoe Idealize.SL.Sem

variable (X : IVec S4096x225 32) (T : FVec Ideal S100201x64 .f32) (O : IVec S26 32)

/-- The row numbers of the fields: the index words plus the fields' offsets. -/
def rows25 : IVec S4096x25 32 :=
  addi (extractStridedSlice S4096x25 ![0, 0] X slices_S4096x225_S4096x25_0_0)
    (broadcastInDim S4096x25 ![0, 1] bcast_S1x25_S4096x25_0_1 (broadcastInDim S1x25 ![1] bcast_S25_S1x25_1
      (extractStridedSlice S25 ![0] O slices_S26_S25_0)))

/-- The row numbers of the multi-hot items: one plus the item's position where its index word is not zero and zero
    otherwise, plus the last offset. -/
def rows200 : IVec S4096x200 32 :=
  addi (select (cmpi .ne (extractStridedSlice S4096x200 ![0, 25] X slices_S4096x225_S4096x200_0_25)
        (broadcastInDim S4096x200 ![] bcast_S_S4096x200 (constantI S_ 32 0#32)))
      (broadcastInDim S4096x200 ![0, 1] bcast_S1x200_S4096x200_0_1 (broadcastInDim S1x200 ![1] bcast_S200_S1x200_1
        (addi (broadcastInDim S200 ![] bcast_S_S200 (constantI S_ 32 1#32)) (iotaInDim S200 32 0))))
      (broadcastInDim S4096x200 ![] bcast_S_S4096x200 (constantI S_ 32 0#32)))
    (broadcastInDim S4096x200 ![] bcast_S_S4096x200 (shapeCast S_ (extractStridedSlice S1 ![25] O slices_S26_S1_25) shapeCasts_S1_S_))

/-- The rows looked up for the items, summed over the items. -/
def bag : FVec Ideal S4096x64 .f32 :=
  Host.reduceAdd (taken200 T (rows200 X O)) (constant S_ .f32 0x00000000#32) reducesTo_S4096x200x64_S4096x64_d1 h_S_

/-- The array the reference computes: the fields' rows, and the items' sum as one row more. -/
def embedding : FVec Ideal S4096x26x64 .f32 :=
  concatenate S4096x26x64 1 [⟨S4096x25x64, taken25 T (rows25 X O)⟩,
    ⟨S4096x1x64, broadcastInDim S4096x1x64 ![0, 2] bcast_S4096x64_S4096x1x64_0_2 (bag X T O)⟩]
    concatenates_S4096x25x64_S4096x1x64_S4096x26x64_d1

/-- What the reference's result holds is that array of its arguments. -/
theorem res_eq (m : (ℓ : Loc nD τ sig) → Buf (Elt Ideal) ℓ) (c : Dev nD) :
    Value.res_main_v22 m c = embedding (m ((c.tc : Thread nD τ).loc main_arg0)) (m ((c.tc : Thread nD τ).loc main_arg1))
      (m ((c.tc : Thread nD τ).loc main_arg2)) := rfl

variable {X T O}

/-- The row a field looks up: the first or the second of its own rows. -/
def fieldRow (X : IVec S4096x225 32) (b : Fin 4096) (i : Fin 25) : Fin 100201 :=
  if X (ix2 b ⟨i.val, by omega⟩) = 0#32 then ⟨4000 * i.val, by omega⟩ else ⟨4000 * i.val + 1, by omega⟩

/-- The row an item looks up: a row of its own when its index word is not zero, the absent item's otherwise. -/
def itemRow (X : IVec S4096x225 32) (b : Fin 4096) (k : Fin 200) : Fin 100201 :=
  if X (ix2 b ⟨25 + k.val, by omega⟩) = 0#32 then ⟨100000, by omega⟩ else ⟨100001 + k.val, by omega⟩

/-- The row number of a field, its index word zero or one. -/
theorem rows25_apply (hO : ∀ i : Fin 26, O (ix1 i) = BitVec.ofNat 32 (4000 * i.val)) (b : Fin 4096) (i : Fin 25)
    (hx : X (ix2 b ⟨i.val, by omega⟩) = 0#32 ∨ X (ix2 b ⟨i.val, by omega⟩) = 1#32) :
    rows25 X O (ix2 b i) = BitVec.ofNat 32 (fieldRow X b i).val := by
  unfold fieldRow
  pointwise [rows25]
  rw [hO]
  rcases hx with hx | hx
  · rw [hx, if_pos rfl]
    exact BitVec.zero_add _
  · rw [hx, if_neg (by decide)]
    exact (BitVec.add_comm _ _).trans (BitVec.ofNat_add _ _).symm

/-- One plus a position, where a word is not zero, plus the last offset. -/
theorem item_word (w : BitVec 32) (k : Fin 200) :
    IntOp.addi (Scalar.select (IntOp.cmpi .ne w 0#32) (IntOp.addi 1#32 (BitVec.ofNat 32 k.val)) 0#32) 100000#32
      = BitVec.ofNat 32 (if w = 0#32 then 100000 else 100001 + k.val) := by
  by_cases hx : w = 0#32
  · rw [if_pos hx, hx]
    exact BitVec.zero_add _
  · have hn : IntOp.cmpi .ne w 0#32 = 1#1 := by
      simp only [IntOp.cmpi]
      rw [show (w != 0#32) = true from bne_iff_ne.mpr hx]
      rfl
    rw [if_neg hx, hn, show 100001 + k.val = 1 + k.val + 100000 by omega, BitVec.ofNat_add, BitVec.ofNat_add]
    rfl

/-- The row number of an item. -/
theorem rows200_apply (hO : ∀ i : Fin 26, O (ix1 i) = BitVec.ofNat 32 (4000 * i.val)) (b : Fin 4096) (k : Fin 200) :
    rows200 X O (ix2 b k) = BitVec.ofNat 32 (itemRow X b k).val := by
  have h25 : O (ix1 25) = 100000#32 := by
    rw [hO]
    exact congrArg (BitVec.ofNat 32) (show 4000 * (25 : Fin 26).val = 100000 by decide)
  have hv : (itemRow X b k).val = if X (ix2 b ⟨25 + k.val, by omega⟩) = 0#32 then 100000 else 100001 + k.val := by
    unfold itemRow
    split <;> rfl
  rw [hv, ← item_word]
  pointwise [rows200]
  rw [h25]

/-- **A field's part of the reference's array**: the row its index word picks out of the field's first two. -/
theorem embedding_field (hO : ∀ i : Fin 26, O (ix1 i) = BitVec.ofNat 32 (4000 * i.val))
    (hX : ∀ b k, X (ix2 b k) = 0#32 ∨ X (ix2 b k) = 1#32) (b : Fin 4096) (i : Fin 25) (e : Fin 64) :
    embedding X T O (ix3 b ⟨i.val, by omega⟩ e)
      = if X (ix2 b ⟨i.val, by omega⟩) = 0#32 then T (ix2 ⟨4000 * i.val, by omega⟩ e)
        else T (ix2 ⟨4000 * i.val + 1, by omega⟩ e) := by
  have hr := fun b i => rows25_apply hO b i (hX b ⟨i.val, by omega⟩)
  have ht := taken25_apply T (fun b i => ⟨fieldRow X b i, hr b i⟩) b i e (fieldRow X b i) (hr b i)
  have hf : T (ix2 (fieldRow X b i) e) = if X (ix2 b ⟨i.val, by omega⟩) = 0#32 then T (ix2 ⟨4000 * i.val, by omega⟩ e)
        else T (ix2 ⟨4000 * i.val + 1, by omega⟩ e) := by
    unfold fieldRow
    split <;> rfl
  refine Eq.trans ?_ (ht.trans hf)
  unfold embedding
  generalize taken25 T (rows25 X O) = F
  generalize broadcastInDim S4096x1x64 ![0, 2] bcast_S4096x64_S4096x1x64_0_2 (bag X T O) = G
  pointwise

/-- **The items' part of the reference's array**: the rows of the items present, summed. -/
theorem embedding_bag (hO : ∀ i : Fin 26, O (ix1 i) = BitVec.ofNat 32 (4000 * i.val))
    (hT : ∀ e, T (ix2 ⟨100000, by omega⟩ e) = (0 : EReal)) (b : Fin 4096) (e : Fin 64) :
    (embedding X T O (ix3 b 25 e) : EReal)
      = ∑ k : Fin 200, if X (ix2 b ⟨25 + k.val, by omega⟩) = 0#32 then (0 : EReal) else T (ix2 ⟨100001 + k.val, by omega⟩ e) := by
  have hr := fun b k => rows200_apply (X := X) hO b k
  have hs : ∀ k : Fin 200, taken200 T (rows200 X O) (ix3 b k e)
      = if X (ix2 b ⟨25 + k.val, by omega⟩) = 0#32 then (0 : EReal) else T (ix2 ⟨100001 + k.val, by omega⟩ e) := by
    intro k
    rw [taken200_apply T (fun b k => ⟨itemRow X b k, hr b k⟩) b k e (itemRow X b k) (hr b k)]
    unfold itemRow
    split
    · exact hT e
    · rfl
  simp only [← hs]
  unfold embedding bag
  generalize taken25 T (rows25 X O) = F
  generalize taken200 T (rows200 X O) = G
  pointwise

end Cert.ReferenceIdeal.Table
-- ==== Proof.Pre.lean ====
module

public import proofs.«01_k».proof.Proof.Gen.Pre_drawn_by_setup
public import Idealize.ShloMosaic.Lib.Pointwise

@[expose] public section

noncomputable section

namespace Cert.Pre_drawn_by_setup.Table

open Cert.Pre_drawn_by_setup Cert.Pre_drawn_by_setup.Gen Idealize.ShloMosaic

variable {X : IVec S4096x225 32} {T : FVec Ideal S100201x64 .f32} {O : IVec S26 32}

/-- A bit made of a truth value is set only when it is true. -/
theorem of_bit {t : Bool} (h : BitVec.ofBool t = 1#1) : t = true := by
  cases t
  · exact absurd h (by decide)
  · rfl

/-- Every index word is zero or one. -/
theorem word_zero_or_one (h : (fn (F := Ideal) X T O).1 = fun _ => 1#1) (b : Fin 4096) (k : Fin 225) :
    X (ix2 b k) = 0#32 ∨ X (ix2 b k) = 1#32 := by
  have hb := congrFun h (ix2 b k)
  pointwise [fn] at hb
  generalize X (ix2 b k) = w at hb ⊢
  simp only [IntOp.andi, IntOp.cmpi] at hb
  by_cases h1 : (0#32).sle w
  · by_cases h2 : w.sle 1#32
    · simp only [BitVec.sle, decide_eq_true_eq] at h1 h2
      have h0 : w.toInt = 0 ∨ w.toInt = 1 := by
        simp at h1 h2
        omega
      exact h0.imp (fun h => BitVec.eq_of_toInt_eq h) (fun h => BitVec.eq_of_toInt_eq h)
    · simp [h2] at hb
  · simp [h1] at hb

/-- The offset of position `i` is `4000 * i`. -/
theorem offset_eq (h : (fn (F := Ideal) X T O).2.1 = fun _ => 1#1) (i : Fin 26) :
    O (ix1 i) = BitVec.ofNat 32 (4000 * i.val) := by
  have hb := congrFun h (ix1 i)
  pointwise [fn] at hb
  simp only [IntOp.cmpi, IntOp.muli] at hb
  have he : O (ix1 i) = 4000#32 * BitVec.ofNat 32 i.val := eq_of_beq (of_bit hb)
  rw [he]
  exact (BitVec.ofNat_mul 4000 i.val).symm

/-- The first row of every field holds real numbers. -/
theorem first_real (h : (fn (F := Ideal) X T O).2.2.1 = fun _ => 1#1) (i : Fin 25) (e : Fin 64) :
    T (ix2 ⟨4000 * i.val, by omega⟩ e) ≠ (⊥ : EReal) ∧ T (ix2 ⟨4000 * i.val, by omega⟩ e) ≠ (⊤ : EReal) := by
  have hb := congrFun h (ix2 i e)
  pointwise [fn] at hb
  generalize T (ix2 ⟨4000 * i.val, by omega⟩ e) = a at hb ⊢
  have hlt : max a (-a) < Ideal.ofBits .f32 2139095040#32 := of_decide_eq_true (of_bit hb)
  constructor
  · rintro rfl
    exact absurd hlt (by simp)
  · rintro rfl
    exact absurd hlt (by simp)

/-- The row that stands for an absent item is zero. -/
theorem absent_zero (h : (fn (F := Ideal) X T O).2.2.2 = fun _ => 1#1) (e : Fin 64) :
    T (ix2 ⟨100000, by omega⟩ e) = (0 : EReal) := by
  have hb := congrFun h (ix1 e)
  pointwise [fn] at hb
  exact of_decide_eq_true (of_bit hb)

end Cert.Pre_drawn_by_setup.Table
-- ==== Proof.Equation.lean ====
module

public import proofs.«01_k».proof.Proof.Result
public import proofs.«01_k».proof.Proof.Reference
public import proofs.«01_k».proof.Proof.Pre

@[expose] public section

noncomputable section

namespace Cert.KernelIdeal.Table

open Cert.KernelIdeal Cert.KernelIdeal.Gen Idealize.ShloMosaic Idealize.ShloMosaic.TcCoe Idealize.SL.Sem

variable (m : (ℓ : Loc nD τ sig) → Buf (Elt Ideal) ℓ) (c : Dev nD)

/-- **The equation**: on arguments as the set-up draws them, what the kernel returns is the array the reference computes
    of the same arguments. -/
theorem result_eq
    (h : (Cert.Pre_drawn_by_setup.fn (F := Ideal) (argX m c) (argT m c) (argO m c)).1 = (fun _ => 1#1)
      ∧ (Cert.Pre_drawn_by_setup.fn (F := Ideal) (argX m c) (argT m c) (argO m c)).2.1 = (fun _ => 1#1)
      ∧ (Cert.Pre_drawn_by_setup.fn (F := Ideal) (argX m c) (argT m c) (argO m c)).2.2.1 = (fun _ => 1#1)
      ∧ (Cert.Pre_drawn_by_setup.fn (F := Ideal) (argX m c) (argT m c) (argO m c)).2.2.2 = (fun _ => 1#1)) :
    result m c = Cert.ReferenceIdeal.Table.embedding (argX m c) (argT m c) (argO m c) := by
  have hX := Cert.Pre_drawn_by_setup.Table.word_zero_or_one h.1
  have hO := Cert.Pre_drawn_by_setup.Table.offset_eq h.2.1
  have hF := Cert.Pre_drawn_by_setup.Table.first_real h.2.2.1
  have hZ := Cert.Pre_drawn_by_setup.Table.absent_zero h.2.2.2
  funext j
  idx_vars j
  rcases Nat.lt_or_ge j1.val 25 with hj | hj
  · exact (result_field m c j0 ⟨j1.val, hj⟩ j2 (hX _ _) (hF ⟨j1.val, hj⟩ j2).1 (hF ⟨j1.val, hj⟩ j2).2).trans
      (Cert.ReferenceIdeal.Table.embedding_field hO hX j0 ⟨j1.val, hj⟩ j2).symm
  · obtain rfl : j1 = 25 := Fin.ext (by have := j1.isLt; show j1.val = 25; omega)
    exact (result_bag m c j0 j2 fun k => hX _ _).trans (Cert.ReferenceIdeal.Table.embedding_bag hO hZ j0 j2).symm

/-- The kernel's run: the returned array ends at the result, the arguments end as they were. -/
theorem run (ρ : Dev nD → PrngReg) :
    θ_run defs (onTc (τ := τ) (main (F := Ideal))) ⟨m, fun _ => 0, ρ⟩ fun r => ∀ c : Dev nD,
      r.2.mem ((c.tc : Thread nD τ).loc main_v56) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v56 (Pipeline.mem_restRefs_of main_v56 (by decide) (by decide))).trans (tail_main_v56 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Table
-- ==== Proof.lean ====
module

public import proofs.«01_k».proof.Defs
public import proofs.«01_k».proof.Proof.Gen.Kernel.Frame
public import proofs.«01_k».proof.Proof.Equation
public import Idealize.ShloMosaic.Lib.Quiescent

@[expose] public section

noncomputable section

namespace Cert.Proof

open Idealize.ShloMosaic Idealize.ShloMosaic.TcCoe Idealize.SL.Sem

/-- The reference runs, leaves its arguments as they were, and has no semaphore to leave raised. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- From arguments as the set-up draws them, kernel and reference end with the same array. -/
theorem algebraic : Cert.algebraic_KernelIdeal_ReferenceIdeal_pre_drawn_by_setup := by
  intro m g m' g' hpre hagree
  refine ⟨fun c => Cert.KernelIdeal.Table.result m c, Cert.KernelIdeal.Table.run m g, ?_⟩
  refine (θ_run Cert.ReferenceIdeal.defs _ _).mono (fun _ h c => ⟨(h c).1.trans ?_, (h c).2⟩)
    (Cert.ReferenceIdeal.Value.run (F := Ideal) m' g')
  obtain ⟨h0, h1, h2⟩ := hagree c
  rw [Cert.ReferenceIdeal.Table.res_eq, h0, h1, h2]
  exact (Cert.KernelIdeal.Table.result_eq m c (hpre c)).symm

/-- All the claims: the three frames, with and without the precondition, the kernel's agreement with its ideal copy, and the
    equality of the results. -/
theorem claim : Cert.Claim :=
  ⟨Cert.Kernel.Gen.facts, Cert.KernelIdeal.Gen.facts, Cert.ReferenceIdeal.Gen.facts, Cert.Pre_drawn_by_setup.Gen.facts,
    fun m g _ => Cert.Kernel.Gen.frame m g, fun m g _ => Cert.KernelIdeal.Gen.frame m g,
    fun m g _ => Cert.KernelIdeal.Gen.frame m g, fun m g _ => frame_reference m g, fun m g _ => frame_reference m g,
    trivial, algebraic⟩

end Cert.Proof

end
